-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v5)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024 : Shape := ⟨1, ![1024]⟩
abbrev S1000x16 : Shape := ⟨2, ![1000, 16]⟩
abbrev S2x16 : Shape := ⟨2, ![2, 16]⟩
abbrev S2x1x16 : Shape := ⟨3, ![2, 1, 16]⟩
abbrev S2x1000x16 : Shape := ⟨3, ![2, 1000, 16]⟩
abbrev S2x16000 : Shape := ⟨2, ![2, 16000]⟩
abbrev S1024x1 : Shape := ⟨2, ![1024, 1]⟩
abbrev S1024x16000 : Shape := ⟨2, ![1024, 16000]⟩
abbrev S128x1 : Shape := ⟨2, ![128, 1]⟩
abbrev S128x16000 : Shape := ⟨2, ![128, 16000]⟩
abbrev S1x16000 : Shape := ⟨2, ![1, 16000]⟩

abbrev nBuf : Space → Nat
  | .hbm => 8
  | .vmem => 5
  | .smem => 0
  | _ => 0

abbrev bufTy : (tb : Table) → Fin (tcTables nBuf tb) → BufTy
  | .hbm, ⟨0, _⟩ => ⟨S1024, .i32⟩
  | .hbm, ⟨1, _⟩ => ⟨S1000x16, .f32⟩
  | .hbm, ⟨2, _⟩ => ⟨S2x16, .f32⟩
  | .hbm, ⟨3, _⟩ => ⟨S2x1x16, .f32⟩
  | .hbm, ⟨4, _⟩ => ⟨S2x1000x16, .f32⟩
  | .hbm, ⟨5, _⟩ => ⟨S2x16000, .f32⟩
  | .hbm, ⟨6, _⟩ => ⟨S1024x1, .i32⟩
  | .hbm, ⟨7, _⟩ => ⟨S1024x16000, .f32⟩
  | .local _ .vmem, ⟨0, _⟩ => ⟨S128x1, .i32⟩
  | .local _ .vmem, ⟨1, _⟩ => ⟨S128x1, .i32⟩
  | .local _ .vmem, ⟨2, _⟩ => ⟨S2x16000, .f32⟩
  | .local _ .vmem, ⟨3, _⟩ => ⟨S128x16000, .f32⟩
  | .local _ .vmem, ⟨4, _⟩ => ⟨S128x16000, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S1024 : Shape := ⟨1, ![1024]⟩
abbrev S1000x16 : Shape := ⟨2, ![1000, 16]⟩
abbrev S1024x1 : Shape := ⟨2, ![1024, 1]⟩
abbrev S1x1000 : Shape := ⟨2, ![1, 1000]⟩
abbrev S1024x1000 : Shape := ⟨2, ![1024, 1000]⟩
abbrev S_ : Shape := ⟨0, ![]⟩
abbrev S1024x1000x1 : Shape := ⟨3, ![1024, 1000, 1]⟩
abbrev S1 : Shape := ⟨1, ![1]⟩
abbrev S1x1x1 : Shape := ⟨3, ![1, 1, 1]⟩
abbrev S1024x1000x16 : Shape := ⟨3, ![1024, 1000, 16]⟩
abbrev S1024x16000 : Shape := ⟨2, ![1024, 16000]⟩

abbrev nBuf : Space → Nat
  | .hbm => 32
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1000x16, .f32⟩
  | .hbm, ⟨2, _⟩ => ⟨S1024x1, .i32⟩
  | .hbm, ⟨3, _⟩ => ⟨S1x1000, .i32⟩
  | .hbm, ⟨4, _⟩ => ⟨S1024x1000, .i32⟩
  | .hbm, ⟨5, _⟩ => ⟨S1024x1000, .i32⟩
  | .hbm, ⟨6, _⟩ => ⟨S1024x1000, .i1⟩
  | .hbm, ⟨7, _⟩ => ⟨S1024x1000, .i32⟩
  | .hbm, ⟨8, _⟩ => ⟨S_, .i32⟩
  | .hbm, ⟨9, _⟩ => ⟨S1024x1000, .i32⟩
  | .hbm, ⟨10, _⟩ => ⟨S1024x1000, .i1⟩
  | .hbm, ⟨11, _⟩ => ⟨S_, .i32⟩
  | .hbm, ⟨12, _⟩ => ⟨S1024x1000, .i32⟩
  | .hbm, ⟨13, _⟩ => ⟨S1024x1000, .i32⟩
  | .hbm, ⟨14, _⟩ => ⟨S1024x1000, .i32⟩
  | .hbm, ⟨15, _⟩ => ⟨S1024x1000x1, .i32⟩
  | .hbm, ⟨16, _⟩ => ⟨S1, .i32⟩
  | .hbm, ⟨17, _⟩ => ⟨S_, .i32⟩
  | .hbm, ⟨18, _⟩ => ⟨S1024x1000x1, .i32⟩
  | .hbm, ⟨19, _⟩ => ⟨S1024x1000x1, .i1⟩
  | .hbm, ⟨20, _⟩ => ⟨S1x1x1, .i32⟩
  | .hbm, ⟨21, _⟩ => ⟨S1024x1000x1, .i32⟩
  | .hbm, ⟨22, _⟩ => ⟨S1024x1000x1, .i1⟩
  | .hbm, ⟨23, _⟩ => ⟨S1024x1000x1, .i1⟩
  | .hbm, ⟨24, _⟩ => ⟨S_, .i1⟩
  | .hbm, ⟨25, _⟩ => ⟨S1024x1000, .i1⟩
  | .hbm, ⟨26, _⟩ => ⟨S1024x1000x16, .f32⟩
  | .hbm, ⟨27, _⟩ => ⟨S1024x1000x16, .i1⟩
  | .hbm, ⟨28, _⟩ => ⟨S_, .f32⟩
  | .hbm, ⟨29, _⟩ => ⟨S1024x1000x16, .f32⟩
  | .hbm, ⟨30, _⟩ => ⟨S1024x1000x16, .f32⟩
  | .hbm, ⟨31, _⟩ => ⟨S1024x16000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_v14 : Ref sig .tc := ⟨.hbm, 27, rfl⟩
abbrev main_call1_cst : Ref sig .tc := ⟨.hbm, 28, rfl⟩
abbrev main_call1_v15 : Ref sig .tc := ⟨.hbm, 29, rfl⟩
abbrev main_v1 : Ref sig .tc := ⟨.hbm, 30, rfl⟩
abbrev main_v2 : Ref sig .tc := ⟨.hbm, 31, rfl⟩

abbrev nD : Nat := 1
abbrev τ : Topo := Topo.v7x

variable {F : FTy → Type} [FloatOps F]
-- ==== Proof.Fill.lean ====
/- Hand-written: THE FUNCTION BOTH PROGRAMS COMPUTE. The one-hot vector of `d b` has a one in slot `c` exactly when
   the word `c` is `d b`; a table lookup by it yields row 1 of the table there and row 0 in every other slot. So
   the flattened result at `(b, j)` is element `j mod 16` of row 1 when `j / 16` is `d b`, and of row 0 otherwise. -/
module

public import Idealize.ShloMosaic.Lib.ValueIdx
public import Idealize.ShloMosaic.Lib.WordCmp

@[expose] public section

noncomputable section

namespace Cert.Fill

open Idealize.ShloMosaic Idealize.ShloMosaic.ValueIdx

/-- The table row that slot `c` of the one-hot vector of the word `d` selects: 1 in the slot that `d` names, else 0. -/
def row (d : BitVec 32) (c : Nat) : Fin 1000 := if BitVec.ofNat 32 c = d then 1 else 0

/-- The flattened embedding of the one-hot vectors of the words `d` in the table `w`. -/
def fill {α : Type} (d : (⟨1, ![1024]⟩ : Shape).Idx → BitVec 32) (w : (⟨2, ![1000, 16]⟩ : Shape).Idx → α) :
    (⟨2, ![1024, 16000]⟩ : Shape).Idx → α := fun i =>
  w (ix2 (row (d (ix1 (i 0))) ((i 1).val / 16)) ⟨(i 1).val % 16, Nat.mod_lt _ (by decide)⟩)

/-- The slot of column `j`, as the vector unit computes it: the column's word shifted right by four bits. -/
theorem slot_word (j : Nat) (hj : j < 16000) :
    IntOp.shrui .vector (BitVec.ofNat 32 j) 4#32 = BitVec.ofNat 32 (j / 16) := by
  unfold IntOp.shrui
  rw [if_pos (by decide)]
  apply BitVec.eq_of_toNat_eq
  rw [BitVec.ushiftRight_eq', BitVec.toNat_ushiftRight, BitVec.toNat_ofNat, BitVec.toNat_ofNat,
    Nat.shiftRight_eq_div_pow, Nat.mod_eq_of_lt (a := j) (by omega)]
  exact (Nat.mod_eq_of_lt (show j / 16 < 2 ^ 32 by omega)).symm

/-- Choosing by the comparison of two words is choosing by their equality. -/
theorem select_eq {α : Type} (x y : BitVec 32) (a b : α) :
    Scalar.select (IntOp.cmpi .eq x y) a b = if x = y then a else b := by
  rw [WordCmp.cmpi_eq_eq, WordCmp.select_decide]

end Cert.Fill

end
-- ==== Proof.Body.lean ====
/- Hand-written: WHAT ONE BLOCK COMPUTES. The body stores, at row `r` and column `j` of its block, the second row of
   the staged pattern at `j` where the slot `j / 16` is the word of row `r`, and the first row at `j` elsewhere. -/
module

public import proofs.«01_k».proof.Proof.Gen.KernelIdeal.Frame
public import proofs.«01_k».proof.Proof.Fill
public import Idealize.ShloMosaic.Lib.Pipeline.Value
public import Idealize.ShloMosaic.Lib.Pipeline.ValueKit.Tiles

@[expose] public section

noncomputable section

namespace Cert.Body

open Cert.KernelIdeal Cert.KernelIdeal.Gen
open Idealize.ShloMosaic Idealize.ShloMosaic.ValueIdx

variable {F : FTy → Type} [FloatOps F]

/-- The stored value at `(r, j)`, from the loaded words and the two loaded rows. -/
theorem pay_apply (d : Vec F S128x1 .i32) (one zero : Vec F S1x16000 .f32) (y : S128x16000.Idx) :
    k0_pay1 d one zero y
      = if BitVec.ofNat 32 ((y 1).val / 16) = d (ix2 (y 0) 0) then one (ix2 0 (y 1)) else zero (ix2 0 (y 1)) := by
  have hj : (y 1).val < 16000 := (y 1).isLt
  unfold k0_pay1
  simp only [shapeCast_self]
  rw [select_apply]
  have e0 : ∀ (v : S1x16000.Idx → F .f32), broadcastTo S128x16000 v broadcasts_S1x16000_S128x16000 y = v (ix2 0 (y 1)) := fun v =>
    broadcastTo_apply v _ y (ix2 0 (y 1)) fun a => match a with
      | ⟨0, _⟩ => rfl
      | ⟨1, _⟩ => rfl
  rw [e0, e0]
  have e1 : broadcastTo S128x16000 (d : IVec S128x1 32) broadcasts_S128x1_S128x16000 y = d (ix2 (y 0) 0) :=
    broadcastTo_apply _ _ y (ix2 (y 0) 0) fun a => match a with
      | ⟨0, _⟩ => rfl
      | ⟨1, _⟩ => rfl
  have e2 : shrui (iota .tc S128x16000 32 [1] iota_S128x16000_d1_w32) (broadcast S128x16000 4#32) y
      = BitVec.ofNat 32 ((y 1).val / 16) := by
    show IntOp.shrui .vector (iota .tc S128x16000 32 [1] iota_S128x16000_d1_w32 y) 4#32 = _
    rw [iota_single_apply]
    exact Fill.slot_word _ hj
  show Scalar.select (IntOp.cmpi .eq (shrui (iota .tc S128x16000 32 [1] iota_S128x16000_d1_w32) (broadcast S128x16000 4#32) y)
    (broadcastTo S128x16000 (d : IVec S128x1 32) broadcasts_S128x1_S128x16000 y)) _ _ = _
  rw [e1, e2]
  exact Fill.select_eq _ _ _ _

/-- What the body leaves in the output's staging buffer, from the two staged inputs. -/
theorem out_apply (d : Vec F S128x1 .i32) (p : Vec F S2x16000 .f32) (y : S128x16000.Idx) :
    out0_2 d p y
      = p (ix2 (if BitVec.ofNat 32 ((y 1).val / 16) = d (ix2 (y 0) 0) then 1 else 0) (y 1)) := by
  have hz : (![0, 0] : Fin 2 → Nat) = fun _ => 0 := funext fun a => by fin_cases a <;> rfl
  unfold out0_2
  rw [View.canon_unit_zero hz, View.ld_unit_zero hz, pay_apply]
  have l1 : View.ld p r0_1 (ix2 0 (y 1)) = p (ix2 1 (y 1)) :=
    View.ld_unit_apply_of p _ _ _ _ _ fun a => match a with
      | ⟨0, _⟩ => rfl
      | ⟨1, _⟩ => (Nat.zero_add _).symm
  have l0 : View.ld p r0_2 (ix2 0 (y 1)) = p (ix2 0 (y 1)) :=
    View.ld_unit_apply_of p _ _ _ _ _ fun a => match a with
      | ⟨0, _⟩ => rfl
      | ⟨1, _⟩ => (Nat.zero_add _).symm
  rw [l1, l0]
  split <;> rfl

end Cert.Body

end
-- ==== Proof.Result.lean ====
/- Hand-written: WHAT THE KERNEL'S RESULT ARRAY HOLDS. The host stages the data as a column and rows 0 and 1 of the
   table, each repeated along the columns; the eight grid points fill blocks of 128 rows which tile the result, so it
   ends at `fill` of the two arguments. Stated for every float type, so it serves the words and the reals alike. -/
module

public import proofs.«01_k».proof.Proof.Gen.KernelIdeal.Value
public import proofs.«01_k».proof.Proof.Body

@[expose] public section

noncomputable section

namespace Cert.KernelIdeal.Result

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- Device `c`'s data words as launched. -/
abbrev words (c : Dev nD) : S1024.Idx → BitVec 32 := m ((c : Thread nD τ).loc main_arg0)
/-- Device `c`'s embedding table as launched. -/
abbrev table (c : Dev nD) : S1000x16.Idx → F .f32 := m ((c : Thread nD τ).loc main_arg1)
/-- The array the kernel's result is shown to hold on device `c`: `fill` of its two arguments. -/
abbrev result (c : Dev nD) : Buf (Elt F) ((c : Thread nD τ).loc main_v5) := Fill.fill (words m c) (table m c)

/-- The staged column at row `b` is word `b`. -/
theorem column_apply (c : Dev nD) (i : S1024x1.Idx) : V m c main_v4 i = words m c (ix1 (i 0)) := by
  have e : V m c main_v4 = shapeCast S1024x1 (words m c) shapeCasts_S1024_S1024x1 := by
    show StableHlo.after hostOps0 _ _ = _
    after_results
    rfl
  rw [e]
  refine shapeCast_apply _ _ i (ix1 (i 0)) ?_
  have h1 : (i 1).val < 1 := (i 1).isLt
  rw [Shape.rowMajor_val_one, Shape.rowMajor_val_two]
  show (i 0).val = (i 0).val * 1 + (i 1).val
  omega

/-- The staged pattern at `(r, j)` is element `j mod 16` of the table's row `r`. -/
theorem pattern_apply (c : Dev nD) (i : S2x16000.Idx) :
    V m c main_v3 i = table m c (ix2 ⟨(i 0).val, (i 0).isLt.trans (by decide)⟩ ⟨(i 1).val % 16, Nat.mod_lt _ (by decide)⟩) := by
  have h0 : (i 0).val < 2 := (i 0).isLt
  have h1 : (i 1).val < 16000 := (i 1).isLt
  have e : V m c main_v3 = shapeCast S2x16000 (broadcastInDim S2x1000x16 ![0, 1, 2] bcast_S2x1x16_S2x1000x16_0_1_2
      (broadcastInDim S2x1x16 ![0, 2] bcast_S2x16_S2x1x16_0_2
        (extractStridedSlice S2x16 ![0, 0] (table m c) slices_S1000x16_S2x16_0_0))) shapeCasts_S2x1000x16_S2x16000 := by
    show StableHlo.after hostOps0 _ _ = _
    after_results
    rfl
  rw [e]
  refine (shapeCast_apply _ _ i (ix3 (i 0) ⟨(i 1).val / 16, by omega⟩ ⟨(i 1).val % 16, by omega⟩) ?_).trans ?_
  · rw [Shape.rowMajor_val_three, Shape.rowMajor_val_two]
    show ((i 0).val * 1000 + (i 1).val / 16) * 16 + (i 1).val % 16 = (i 0).val * 16000 + (i 1).val
    omega
  refine (broadcastInDim_apply _ _ _ _ (ix3 (i 0) 0 ⟨(i 1).val % 16, by omega⟩) fun a => ?_).trans ?_
  · match a with
    | ⟨0, _⟩ => rfl
    | ⟨1, _⟩ => rfl
    | ⟨2, _⟩ => rfl
  refine (broadcastInDim_apply _ _ _ _ (ix2 (i 0) ⟨(i 1).val % 16, by omega⟩) fun a => ?_).trans ?_
  · match a with
    | ⟨0, _⟩ => rfl
    | ⟨1, _⟩ => rfl
  refine extractStridedSlice_apply _ _ _ _ _ fun a => ?_
  match a with
  | ⟨0, _⟩ => exact (Nat.zero_add _).symm
  | ⟨1, _⟩ => exact (Nat.zero_add _).symm

/-- Where the windows of point `t` start: the column's and the result's at row block `t`, the pattern's at its origin. -/
theorem idx_facts : ∀ t : Fin cfg0.N, win0_0.index t (0 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `result`. -/
theorem flushed_eq (c : Dev nD) (t : Fin cfg0.N) :
    (dats m 0 c).flushed 2 t = (win0_2.blk t).view.read (Elt F) (result m c) := by
  rw [Value.flushed2]
  obtain ⟨hd, hp0, hp1, ho0, ho1⟩ := idx_facts t
  funext y
  have y1 : (y 1).val < 16000 := (y 1).isLt
  have b0 : ((win0_2.blk t).view.emb y 0).val = t.val * 128 + (y 0).val := by
    show win0_2.index t (0 : Fin 2) * 128 + 1 * (y 0).val = _; omega
  have b1 : ((win0_2.blk t).view.emb y 1).val = (y 1).val := by
    show win0_2.index t (1 : Fin 2) * 16000 + 1 * (y 1).val = _; omega
  have hw : iblk m c 0 t (ix2 (y 0) 0) = words m c (ix1 ((win0_2.blk t).view.emb y 0)) := by
    show V m c main_v4 ((win0_0.blk t).view.emb (ix2 (y 0) 0)) = _
    rw [column_apply]
    refine congrArg (words m c) (funext fun a => Fin.ext ?_)
    match a with
    | ⟨0, _⟩ =>
      show win0_0.index t (0 : Fin 2) * 128 + 1 * (y 0).val = ((win0_2.blk t).view.emb y 0).val
      omega
  have hq (r : Fin 2) : iblk m c 1 t (ix2 r (y 1))
      = table m c (ix2 ⟨r.val, r.isLt.trans (by decide)⟩ ⟨(y 1).val % 16, Nat.mod_lt _ (by decide)⟩) := by
    show V m c main_v3 ((win0_1.blk t).view.emb (ix2 r (y 1))) = _
    rw [pattern_apply]
    refine congrArg (table m c) (funext fun a => Fin.ext ?_)
    match a with
    | ⟨0, _⟩ => show win0_1.index t (0 : Fin 2) * 2 + 1 * r.val = r.val; omega
    | ⟨1, _⟩ => show (win0_1.index t (1 : Fin 2) * 16000 + 1 * (y 1).val) % 16 = (y 1).val % 16; omega
  show out0_2 (iblk m c 0 t) (iblk m c 1 t) y = Fill.fill (words m c) (table m c) ((win0_2.blk t).view.emb y)
  refine (Body.out_apply _ _ y).trans ?_
  refine (hq _).trans ?_
  unfold Fill.fill Fill.row
  refine congrArg (table m c) (funext fun a => Fin.ext ?_)
  match a with
  | ⟨0, _⟩ =>
    show (if BitVec.ofNat 32 ((y 1).val / 16) = iblk m c 0 t (ix2 (y 0) 0) then (1 : Fin 2) else 0).val
      = (if BitVec.ofNat 32 (((win0_2.blk t).view.emb y 1).val / 16) = words m c (ix1 ((win0_2.blk t).view.emb y 0))
          then (1 : Fin 1000) else 0).val
    rw [hw, b1]
    split <;> rfl
  | ⟨1, _⟩ => show (y 1).val % 16 = ((win0_2.blk t).view.emb y 1).val % 16; rw [b1]

/-- Row `i 0` of the result lies in point `t`'s block exactly when it is one of the 128 rows from `128 t` on. -/
theorem mem_blk (t : Fin cfg0.N) (i : S1024x16000.Idx) :
    i ∈ ((cfg0.win 2).blk t).view.set ↔ t.val * 128 ≤ (i 0).val ∧ (i 0).val < t.val * 128 + 128 := by
  show i ∈ ((View.whole main_v5).slice (win0_2.rect t)).set ↔ _
  rw [View.set_slice_whole, Rect.mem_set_unit]
  have h1 : (i 1).val < 16000 := (i 1).isLt
  obtain ⟨-, -, -, ho0, ho1⟩ := idx_facts t
  have e0 : (win0_2.index t (0 : Fin 2) * 128 ≤ (i 0).val ∧ (i 0).val < win0_2.index t (0 : Fin 2) * 128 + 128)
      ↔ t.val * 128 ≤ (i 0).val ∧ (i 0).val < t.val * 128 + 128 := by rw [ho0]
  refine ⟨fun h => e0.mp (h 0), fun h a => ?_⟩
  match a with
  | ⟨0, _⟩ => exact e0.mpr h
  | ⟨1, _⟩ =>
    show win0_2.index t (1 : Fin 2) * 16000 ≤ (i 1).val ∧ (i 1).val < win0_2.index t (1 : Fin 2) * 16000 + 16000
    omega

/-- The eight blocks tile the result: every row belongs to the block numbered by its quotient by 128. -/
theorem cover (i : S1024x16000.Idx) :
    ∃ t : Fin cfg0.N, (cfg0.win 2).flush t = true ∧ i ∈ ((cfg0.win 2).blk t).view.set := by
  have h0 : (i 0).val < 1024 := (i 0).isLt
  have hN : cfg0.N = 8 := N_0
  refine ⟨⟨(i 0).val / 128, by omega⟩, flush0_2 _, ?_⟩
  rw [mem_blk]
  dsimp only
  omega

/-- The whole run: the result array ends at `result`, the arguments as launched. -/
theorem run : θ_run defs (onTc (τ := τ) (main (F := F))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans ((dats m 0 c).arrAt_eq_of_cover 2 (result m c) (fun t _ => flushed_eq m c t) cover), (h c).2⟩)
    (Value.run_blocks m ρ)

end Cert.KernelIdeal.Result

end
-- ==== Proof.Lookup.lean ====
/- Hand-written: WHAT THE REFERENCE COMPUTES. Every element of the one-hot array is the word 0 or 1, so the lookup's
   wrapping of negative indices leaves it, its range test passes everywhere (the fill value is never taken), and the
   gather reads row 0 or row 1 of the table. -/
module

public import proofs.«01_k».proof.Proof.Gen.ReferenceIdeal.Run
public import proofs.«01_k».proof.Proof.Gen.ReferenceIdeal.Read
public import proofs.«01_k».proof.Proof.Fill
public import Idealize.ShloMosaic.Lib.ReduceAll

@[expose] public section

noncomputable section

namespace Cert.Lookup

open Cert.ReferenceIdeal Cert.ReferenceIdeal.Gen Cert.ReferenceIdeal.Read
open Idealize.ShloMosaic Idealize.ShloMosaic.ValueIdx

variable {F : FTy → Type} [FloatOps F]
variable (d : (⟨S1024, .i32⟩ : BufTy).Contents (Elt F)) (w : (⟨S1000x16, .f32⟩ : BufTy).Contents (Elt F))

/-- Element `(b, c)` of the one-hot array is the word 1 where `c` is the word of `b`, and 0 elsewhere. -/
theorem onehot_apply (i : S1024x1000.Idx) :
    val_main_v0 (F := F) d i = if BitVec.ofNat 32 (i 1).val = d (ix1 (i 0)) then 1#32 else 0#32 := by
  have e : val_main_v0 (F := F) d i
      = (IntOp.cmpi .eq (d (ix1 (i 0))) (BitVec.ofNat 32 (i 1).val)).setWidth 32 := by
    show (IntOp.cmpi .eq (val_main_call0_v2 (F := F) d i) (val_main_call0_v3 (F := F) i)).setWidth 32 = _
    rw [val_main_call0_v2_apply, val_main_call0_v0_apply, val_main_call0_v3_apply, val_main_call0_v1_apply]
    have h : idx_main_call0_v0 (idx_main_call0_v2 i) = ix1 (i 0) := funext fun a => match a with | ⟨0, _⟩ => rfl
    rw [h]
    rfl
  rw [e, WordCmp.cmpi_eq_eq]
  by_cases h : BitVec.ofNat 32 (i 1).val = d (ix1 (i 0))
  · rw [if_pos h, decide_eq_true h.symm]; rfl
  · rw [if_neg h, decide_eq_false fun h' => h h'.symm]; rfl

/-- The wrapping of negative indices changes no element of the one-hot array. -/
theorem wrapped_apply (i : S1024x1000.Idx) :
    val_main_call1_v4 (F := F) d i = if BitVec.ofNat 32 (i 1).val = d (ix1 (i 0)) then 1#32 else 0#32 := by
  rw [← onehot_apply]
  show Scalar.select (IntOp.cmpi .slt (val_main_v0 (F := F) d i) (val_main_call1_v0 (F := F) i))
    (val_main_call1_v3 (F := F) d i) (val_main_v0 (F := F) d i) = _
  rw [val_main_call1_v0_apply, onehot_apply]
  split <;> rfl

/-- The range test passes at every index. -/
theorem inRange_apply (i : S1024x1000x1.Idx) : val_main_call1_v11 (F := F) d i = 1#1 := by
  show IntOp.andi (IntOp.cmpi .sge (val_main_call1_v5 (F := F) d i) (val_main_call1_v6 (F := F) i))
    (IntOp.cmpi .sle (val_main_call1_v5 (F := F) d i) (val_main_call1_v9 (F := F) i)) = _
  rw [val_main_call1_v5_apply, val_main_call1_v6_apply, val_main_call1_v9_apply, val_main_call1_v8_apply, wrapped_apply]
  show IntOp.andi (IntOp.cmpi .sge _ 0#32) (IntOp.cmpi .sle _ 999#32) = 1#1
  split <;> decide

/-- So its conjunction over the index's components is true in every slot. -/
theorem valid_apply (i : S1024x1000.Idx) : val_main_call1_v12 (F := F) d i = 1#1 :=
  Host.reduce_andi_one _ _ _ _ i rfl (inRange_apply d)

/-- The gather's dimension numbers. -/
abbrev dims : GatherDims S1000x16 S1024x1000x1 S1024x1000x16 := gather_S1000x16_S1024x1000x1_S1024x1000x16_2_0_n_n_0_2_116

/-- The table row a start index names: the word read signed and clamped to the table's rows. -/
def clampRow (v : BitVec 32) : Fin 1000 := ⟨min v.toInt.toNat 999, by omega⟩

/-- THE GATHER AT `(b, c, e)`: element `e` of the table's row that the start index at `[b, c]` names. -/
theorem gather_apply {α : Type} (x : S1000x16.Idx → α) (ix : IVec S1024x1000x1 32) (y : S1024x1000x16.Idx) :
    Host.gather dims x ix y
      = x (ix2 (clampRow (ix (ix3 (y 0) (y 1) 0))) (y 2)) := by
  unfold Host.gather
  congr 1
  funext a
  refine Fin.ext ?_
  show (GatherDims.start dims y ix a) + GatherDims.batchCoord dims y a + GatherDims.offCoord dims y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have hs : GatherDims.siIdx dims y ⟨List.idxOf (0 : Fin 2) (GatherDims.startIndexMap dims),
        List.idxOf_lt_length_iff.2 (List.mem_singleton.mpr rfl)⟩ = ix3 (y 0) (y 1) 0 := by
      funext b
      refine Fin.ext ?_
      match b with
      | ⟨0, _⟩ => rfl
      | ⟨1, _⟩ => rfl
      | ⟨2, _⟩ => rfl
    have h0 : GatherDims.start dims y ix (0 : Fin 2) = (clampRow (ix (ix3 (y 0) (y 1) 0))).val := by
      unfold GatherDims.start
      rw [dif_pos (show (0 : Fin 2) ∈ GatherDims.startIndexMap dims from List.mem_singleton.mpr rfl)]
      exact congrArg (fun k => min (ix k).toInt.toNat 999) hs
    exact h0
  | ⟨1, _⟩ =>
    have h0 : GatherDims.start dims y ix (1 : Fin 2) = 0 := by
      unfold GatherDims.start
      rw [dif_neg (by decide)]
    show GatherDims.start dims y ix (1 : Fin 2) + 0 + GatherDims.offCoord dims y (1 : Fin 2) = (y 2).val
    rw [h0]
    simp only [Nat.zero_add]
    rfl

/-- THE REFERENCE'S RESULT is the flattened embedding `fill`. -/
theorem result_eq : val_main_v2 (F := F) d w = Fill.fill d w := by
  funext i
  have h0 : (i 0).val < 1024 := (i 0).isLt
  have h1 : (i 1).val < 16000 := (i 1).isLt
  rw [val_main_v2_apply, val_main_v1_apply, val_main_call1_v14_apply, valid_apply, select_one]
  unfold val_main_call1_v13
  rw [gather_apply, val_main_call1_v5_apply, wrapped_apply]
  unfold Fill.fill
  refine congrArg w ?_
  have hb : (ix1 (idx_main_call1_v5 (ix3 (idx_main_v2 i 0) (idx_main_v2 i 1) 0) 0) : S1024.Idx) = ix1 (i 0) :=
    funext fun a => match a with | ⟨0, _⟩ => Fin.ext (by show ((i 0).val * 16000 + (i 1).val) / 16000 = (i 0).val; omega)
  have hc : (idx_main_call1_v5 (ix3 (idx_main_v2 i 0) (idx_main_v2 i 1) 0) 1).val = (i 1).val / 16 := by
    show ((i 0).val * 16000 + (i 1).val) / 16 % 1000 = _; omega
  funext a
  refine Fin.ext ?_
  match a with
  | ⟨0, _⟩ =>
    rw [hb, hc]
    show (clampRow (if BitVec.ofNat 32 ((i 1).val / 16) = d (ix1 (i 0)) then 1#32 else 0#32)).val
      = (Fill.row (d (ix1 (i 0))) ((i 1).val / 16)).val
    unfold Fill.row
    split <;> decide
  | ⟨1, _⟩ => show ((i 0).val * 16000 + (i 1).val) % 16 = (i 1).val % 16; omega

end Cert.Lookup

namespace Cert.ReferenceIdeal.Result

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The array the reference's result is shown to hold on device `c`: `fill` of its two arguments. -/
abbrev result (c : Dev nD) : Buf (Elt F) ((c : Thread nD τ).loc main_v2) :=
  Fill.fill (m ((c : Thread nD τ).loc main_arg0)) (m ((c : Thread nD τ).loc main_arg1))

/-- The reference's whole run: the result array ends at `result`, the arguments as launched. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨((h c).1.trans (Read.val_main_v2_eq _ _)).trans (Lookup.result_eq _ _), (h c).2⟩) (Value.run m ρ)

end Cert.ReferenceIdeal.Result

end
-- ==== Proof.Twins.lean ====
/- Hand-written: THE BIT-EXACT PROGRAMS. The idealizing pass rewrote no operation, so the printed kernel and its
   idealization are the same definitions under two names, and so are the two printings of the reference. What is proved
   of the one, at every float type, therefore holds of the other. -/
module

public import proofs.«01_k».proof.Proof.Gen.Kernel.Frame
public import proofs.«01_k».proof.Proof.Gen.Reference.Run
public import proofs.«01_k».proof.Proof.Result
public import proofs.«01_k».proof.Proof.Lookup

@[expose] public section

noncomputable section

open Idealize.ShloMosaic Idealize.ShloMosaic.TcCoe Idealize.SL.Sem

namespace Cert.Kernel.Result

open Cert.Kernel Cert.Kernel.Gen

variable {F : FTy → Type} [FloatOps F]
variable (m : (ℓ : Loc nD τ sig) → Buf (Elt F) ℓ) (ρ : Dev nD → PrngReg)

/-- The two printings of the kernel have the same body table: one label, whose functions are the same operations. -/
theorem body_eq : defs₀ (F := F) = Cert.KernelIdeal.defs₀ (F := F) := by
  refine congrArg Defs.onTc (funext fun l => ?_)
  match l with
  | ⟨0, _⟩ => rfl

/-- So they have the same table with the pipeline's labels added. -/
theorem defs_eq : defs (F := F) = Cert.KernelIdeal.defs (F := F) :=
  congrArg (Pipeline.defs Cert.KernelIdeal.pcfgs) body_eq

/-- The array the kernel's result is shown to hold on device `c`: `fill` of its two arguments. -/
abbrev result (c : Dev nD) : Buf (Elt F) ((c : Thread nD τ).loc main_v5) :=
  Fill.fill (m ((c : Thread nD τ).loc main_arg0)) (m ((c : Thread nD τ).loc main_arg1))

/-- The kernel's whole run: the result array ends at `result`, the arguments as launched. -/
theorem run : θ_run defs (onTc (τ := τ) (main (F := F))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) := by
  rw [defs_eq]
  exact Cert.KernelIdeal.Result.run m ρ

end Cert.Kernel.Result

namespace Cert.Reference.Result

open Cert.Reference Cert.Reference.Gen

variable {F : FTy → Type} [FloatOps F]
variable (m : (ℓ : Loc nD τ sig) → Buf (Elt F) ℓ) (ρ : Dev nD → PrngReg)

/-- The array the reference's result is shown to hold on device `c`: `fill` of its two arguments. -/
abbrev result (c : Dev nD) : Buf (Elt F) ((c : Thread nD τ).loc main_v2) :=
  Fill.fill (m ((c : Thread nD τ).loc main_arg0)) (m ((c : Thread nD τ).loc main_arg1))

/-- The reference's whole run, as its other printing's: the result array ends at `result`, the arguments as launched. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  Cert.ReferenceIdeal.Result.run m ρ

end Cert.Reference.Result

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Reference
public import proofs.«01_k».proof.Proof.Gen.ReferenceIdeal
public import proofs.«01_k».proof.Proof.Twins
public import Idealize.ShloMosaic.Lib.Quiescent

@[expose] public section

noncomputable section

namespace Cert.Proof

open Idealize.ShloMosaic Idealize.SL.Sem

/-- The kernel runs, leaves its arguments, and ends with every semaphore at zero: bit-exactly, -/
theorem frame_kernel : Cert.quiescent_Kernel := fun m ρ _ => Cert.Kernel.Gen.frame m ρ
/-- and on extended reals. -/
theorem frame_kernelIdeal : Cert.quiescent_KernelIdeal := fun m ρ _ => Cert.KernelIdeal.Gen.frame m ρ

/-- The reference runs and leaves its arguments; it declares no semaphore. On extended reals, -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Result.run (F := Ideal) m ρ)
/-- and bit-exactly. -/
theorem frame_reference : Cert.quiescent_Reference := fun m ρ _ =>
  (θ_run Cert.Reference.defs _ _).mono (fun r h => ⟨fun c => (h c).2, sem_eq_zero_of_no_sems (by decide) r.2⟩)
    (Cert.Reference.Result.run (F := Bits) m ρ)

/-- On extended reals, from equal arguments, kernel and reference both end holding `fill` of them. -/
theorem algebraic : Cert.algebraic_KernelIdeal_ReferenceIdeal := by
  intro m ρ m' ρ' _ hagree
  refine ⟨fun c => Cert.KernelIdeal.Result.result m c, Cert.KernelIdeal.Result.run (F := Ideal) m ρ, ?_⟩
  refine (θ_run Cert.ReferenceIdeal.defs _ _).mono (fun _ h c => ⟨(h c).1.trans ?_, (h c).2⟩)
    (Cert.ReferenceIdeal.Result.run (F := Ideal) m' ρ')
  unfold Cert.ReferenceIdeal.Result.result
  rw [(hagree c).1, (hagree c).2]

/-- Bit for bit, from equal arguments, kernel and reference both end holding `fill` of them. -/
theorem bitexact : Cert.bitexact_Kernel_Reference := by
  intro m ρ m' ρ' _ hagree
  refine ⟨fun c => Cert.Kernel.Result.result m c, Cert.Kernel.Result.run (F := Bits) m ρ, ?_⟩
  refine (θ_run Cert.Reference.defs _ _).mono (fun _ h c => ⟨(h c).1.trans ?_, (h c).2⟩)
    (Cert.Reference.Result.run (F := Bits) m' ρ')
  unfold Cert.Reference.Result.result
  rw [(hagree c).1, (hagree c).2]

/-- Everything the certificate claims; the idealizing pass rewrote nothing, so there is nothing to preserve. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
